-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S4x8192 : Shape := ⟨2, ![4, 8192]⟩
abbrev S4x2048 : Shape := ⟨2, ![4, 2048]⟩
abbrev S4 : Shape := ⟨1, ![4]⟩
abbrev S1x8192 : Shape := ⟨2, ![1, 8192]⟩
abbrev S8192 : Shape := ⟨1, ![8192]⟩
abbrev S1 : Shape := ⟨1, ![1]⟩
abbrev S1x1 : Shape := ⟨2, ![1, 1]⟩
abbrev S_ : Shape := ⟨0, ![]⟩
abbrev S1x2048 : Shape := ⟨2, ![1, 2048]⟩
abbrev S1x1x2048 : Shape := ⟨3, ![1, 1, 2048]⟩

abbrev nBuf : Space → Nat
  | .hbm => 3
  | .vmem => 1
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .f32⟩
  | .hbm, ⟨2, _⟩ => ⟨S4x2048, .f32⟩
  | .local _ .vmem, ⟨0, _⟩ => ⟨S4x8192, .f32⟩
  | _, _ => ⟨S4x8192x2048, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

def k0_off1 (v6 : BitVec 32) : Fin 3 → Nat :=
  let c0_i32_1 : BitVec 32 := 0#32
  let c8191_i32 : BitVec 32 := 8191#32
  let c0_i32 : BitVec 32 := 0#32
  let c1_i32 : BitVec 32 := 1#32
  let v7 : BitVec 32 := Scalar.subi v6 c1_i32
  let v8 : BitVec 32 := Scalar.maxsi c0_i32 v7
  let v9 : BitVec 32 := Scalar.minsi c8191_i32 v8
  let c0_i32_5 : BitVec 32 := 0#32
  ![0, v9.toNat, 0]

def k0_off2 (v21 : BitVec 32) : Fin 3 → Nat :=
  let c1_i32_11 : BitVec 32 := 1#32
  let c8191_i32_10 : BitVec 32 := 8191#32
  let c0_i32_9 : BitVec 32 := 0#32
  let c1_i32_8 : BitVec 32 := 1#32
  let v22 : BitVec 32 := Scalar.subi v21 c1_i32_8
  let v23 : BitVec 32 := Scalar.maxsi c0_i32_9 v22
  let v24 : BitVec 32 := Scalar.minsi c8191_i32_10 v23
  let c0_i32_15 : BitVec 32 := 0#32
  ![1, v24.toNat, 0]

def k0_off3 (v36 : BitVec 32) : Fin 3 → Nat :=
  let c2_i32 : BitVec 32 := 2#32
  let c8191_i32_20 : BitVec 32 := 8191#32
  let c0_i32_19 : BitVec 32 := 0#32
  let c1_i32_18 : BitVec 32 := 1#32
  let v37 : BitVec 32 := Scalar.subi v36 c1_i32_18
  let v38 : BitVec 32 := Scalar.maxsi c0_i32_19 v37
  let v39 : BitVec 32 := Scalar.minsi c8191_i32_20 v38
  let c0_i32_24 : BitVec 32 := 0#32
  ![2, v39.toNat, 0]

def k0_off4 (v51 : BitVec 32) : Fin 3 → Nat :=
  let c3_i32 : BitVec 32 := 3#32
  let c8191_i32_29 : BitVec 32 := 8191#32
  let c0_i32_28 : BitVec 32 := 0#32
  let c1_i32_27 : BitVec 32 := 1#32
  let v52 : BitVec 32 := Scalar.subi v51 c1_i32_27
  let v53 : BitVec 32 := Scalar.maxsi c0_i32_28 v52
  let v54 : BitVec 32 := Scalar.minsi c8191_i32_29 v53
  let c0_i32_33 : BitVec 32 := 0#32
  ![3, v54.toNat, 0]

def k0_chk4 (v51 : BitVec 32) : Prop :=
  (∀ a, (k0_off4 v51) a + S1x1x2048.size a ≤ S4x8192x2048.size a)
theorem k0_off4_inb : ∀ (v51 : BitVec 32) (k0_hw4 : k0_chk4 v51), ∀ a, (k0_off4 v51) a + S1x1x2048.size a ≤ S4x8192x2048.size a := fun v51 k0_hw4 => k0_hw4

def k0_off5 (v6 : BitVec 32) : Fin 3 → Nat :=
  let c0_i32_34 : BitVec 32 := 0#32
  let c8191_i32 : BitVec 32 := 8191#32
  let c0_i32 : BitVec 32 := 0#32
  let c1_i32 : BitVec 32 := 1#32
  let v7 : BitVec 32 := Scalar.subi v6 c1_i32
  let v8 : BitVec 32 := Scalar.maxsi c0_i32 v7
  let v9 : BitVec 32 := Scalar.minsi c8191_i32 v8
  let c0_i32_38 : BitVec 32 := 0#32
  ![0, v9.toNat, 0]

def k0_chk1 (v6 : BitVec 32) : Prop :=
  (∀ a, (k0_off1 v6) a + S1x1x2048.size a ≤ S4x8192x2048.size a) ∧
  (∀ a, (k0_off5 v6) a + S1x1x2048.size a ≤ S4x8192x2048.size a)
theorem k0_off1_inb : ∀ (v6 : BitVec 32) (k0_hw1 : k0_chk1 v6), ∀ a, (k0_off1 v6) a + S1x1x2048.size a ≤ S4x8192x2048.size a := fun v6 k0_hw1 => k0_hw1.1
theorem k0_off5_inb : ∀ (v6 : BitVec 32) (k0_hw1 : k0_chk1 v6), ∀ a, (k0_off5 v6) a + S1x1x2048.size a ≤ S4x8192x2048.size a := fun v6 k0_hw1 => k0_hw1.2

def k0_off6 (v21 : BitVec 32) : Fin 3 → Nat :=
  let c1_i32_39 : BitVec 32 := 1#32
  let c8191_i32_10 : BitVec 32 := 8191#32
  let c0_i32_9 : BitVec 32 := 0#32
  let c1_i32_8 : BitVec 32 := 1#32
  let v22 : BitVec 32 := Scalar.subi v21 c1_i32_8
  let v23 : BitVec 32 := Scalar.maxsi c0_i32_9 v22
  let v24 : BitVec 32 := Scalar.minsi c8191_i32_10 v23
  let c0_i32_43 : BitVec 32 := 0#32
  ![1, v24.toNat, 0]

def k0_chk2 (v21 : BitVec 32) : Prop :=
  (∀ a, (k0_off2 v21) a + S1x1x2048.size a ≤ S4x8192x2048.size a) ∧
  (∀ a, (k0_off6 v21) a + S1x1x2048.size a ≤ S4x8192x2048.size a)
theorem k0_off2_inb : ∀ (v21 : BitVec 32) (k0_hw2 : k0_chk2 v21), ∀ a, (k0_off2 v21) a + S1x1x2048.size a ≤ S4x8192x2048.size a := fun v21 k0_hw2 => k0_hw2.1
theorem k0_off6_inb : ∀ (v21 : BitVec 32) (k0_hw2 : k0_chk2 v21), ∀ a, (k0_off6 v21) a + S1x1x2048.size a ≤ S4x8192x2048.size a := fun v21 k0_hw2 => k0_hw2.2

def k0_off7 (v36 : BitVec 32) : Fin 3 → Nat :=
  let c2_i32_44 : BitVec 32 := 2#32
  let c8191_i32_20 : BitVec 32 := 8191#32
  let c0_i32_19 : BitVec 32 := 0#32
  let c1_i32_18 : BitVec 32 := 1#32
  let v37 : BitVec 32 := Scalar.subi v36 c1_i32_18
  let v38 : BitVec 32 := Scalar.maxsi c0_i32_19 v37
  let v39 : BitVec 32 := Scalar.minsi c8191_i32_20 v38
  let c0_i32_48 : BitVec 32 := 0#32
  ![2, v39.toNat, 0]

def k0_chk3 (v36 : BitVec 32) : Prop :=
  (∀ a, (k0_off3 v36) a + S1x1x2048.size a ≤ S4x8192x2048.size a) ∧
  (∀ a, (k0_off7 v36) a + S1x1x2048.size a ≤ S4x8192x2048.size a)
theorem k0_off3_inb : ∀ (v36 : BitVec 32) (k0_hw3 : k0_chk3 v36), ∀ a, (k0_off3 v36) a + S1x1x2048.size a ≤ S4x8192x2048.size a := fun v36 k0_hw3 => k0_hw3.1
theorem k0_off7_inb : ∀ (v36 : BitVec 32) (k0_hw3 : k0_chk3 v36), ∀ a, (k0_off7 v36) a + S1x1x2048.size a ≤ S4x8192x2048.size a := fun v36 k0_hw3 => k0_hw3.2

abbrev stage0_0 : Fin 1 → Memref sig .tc .vmem S4x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S4x8192 : Shape := ⟨2, ![4, 8192]⟩
abbrev S_ : Shape := ⟨0, ![]⟩
abbrev S4 : Shape := ⟨1, ![4]⟩
abbrev S4x1 : Shape := ⟨2, ![4, 1]⟩
abbrev S4x2 : Shape := ⟨2, ![4, 2]⟩
abbrev S4x2048 : Shape := ⟨2, ![4, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .f32⟩
  | .hbm, ⟨2, _⟩ => ⟨S4x8192, .i32⟩
  | .hbm, ⟨3, _⟩ => ⟨S_, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S4, .i32⟩
  | .hbm, ⟨26, _⟩ => ⟨S4x1, .i32⟩
  | .hbm, ⟨27, _⟩ => ⟨S4x1, .i32⟩
  | .hbm, ⟨28, _⟩ => ⟨S4x2, .i32⟩
  | .hbm, ⟨29, _⟩ => ⟨S4x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Words.lean ====
module

public import Idealize.ShloMosaic.Lib.WordSum
public import Idealize.ShloMosaic.Lib.ValueIdxCore
public import Idealize.ShloMosaic.Lib.Pipeline.Value

@[expose] public section

noncomputable section

namespace Cert.Pool

open Idealize.ShloMosaic Idealize.ShloMosaic.ValueIdx

/-! ## The row a length word names -/

/-- The row a length word names: one less than the length, read signed and held between the first row and the last. -/
def rowOf (w : BitVec 32) : ℕ := (Scalar.minsi 8191#32 (Scalar.maxsi 0#32 (Scalar.subi w 1#32))).toNat

/-- The same row, when the word is first held at zero or above and then held below the end where it is read. -/
theorem rowOf_eq_min (w : BitVec 32) : rowOf w = min (IntOp.maxsi (IntOp.subi w 1#32) 0#32).toInt.toNat 8191 := by
  unfold rowOf Scalar.minsi Scalar.maxsi Scalar.subi IntOp.minsi IntOp.maxsi
  generalize IntOp.subi w 1#32 = z
  have hz := BitVec.toInt_eq_toNat_cond z
  have hlt := z.isLt
  have e0 : (0#32 : BitVec 32).toInt = 0 := rfl
  have e1 : (8191#32 : BitVec 32).toInt = 8191 := rfl
  have n0 : (0#32 : BitVec 32).toNat = 0 := rfl
  have n1 : (8191#32 : BitVec 32).toNat = 8191 := rfl
  simp only [BitVec.slt, decide_eq_true_eq]
  split_ifs at * <;> omega

theorem rowOf_le (w : BitVec 32) : rowOf w ≤ 8191 := by
  rw [rowOf_eq_min]; exact Nat.min_le_right _ _

theorem rowOf_lt (w : BitVec 32) : rowOf w < 8192 := by
  have := rowOf_le w; omega

/-- A word held at zero or above is not below zero. -/
theorem cmpi_slt_maxsi_zero (z : BitVec 32) : IntOp.cmpi .slt (IntOp.maxsi z 0#32) 0#32 = 0#1 := by
  have e0 : (0#32 : BitVec 32).toInt = 0 := rfl
  unfold IntOp.cmpi IntOp.maxsi
  simp only [BitVec.slt]
  split_ifs with h
  · rw [decide_eq_true_eq] at h
    rw [decide_eq_false (by omega)]; rfl
  · rfl

/-! ## A sum along the rows of a rank-two array of words -/

/-- The indices a row map sends to row `i` are the row's own: a sum over them is a sum over the columns. -/
theorem sum_row {n m : ℕ} (drop : (⟨2, ![n, m]⟩ : Shape).Idx → (⟨1, ![n]⟩ : Shape).Idx)
    (hd : ∀ k, (drop k 0).val = (k 0).val) (x : (⟨2, ![n, m]⟩ : Shape).Idx → BitVec 32) (i : Fin n) :
    ∑ k ∈ Finset.univ.filter (fun k => drop k = ix1 i), x k = ∑ q : Fin m, x (ix2 i q) := by
  symm
  refine Finset.sum_nbij (fun q => ix2 i q) ?_ ?_ ?_ fun _ _ => rfl
  · intro q _
    rw [Finset.mem_filter]
    refine ⟨Finset.mem_univ _, funext fun a => ?_⟩
    obtain rfl : a = 0 := Subsingleton.elim _ _
    exact Fin.ext (hd _)
  · intro q _ q' _ h
    exact congrFun h 1
  · intro k hk
    have hk' := (Finset.mem_filter.1 (Finset.mem_coe.1 hk)).2
    refine ⟨k 1, Finset.mem_coe.2 (Finset.mem_univ _), funext fun a => Fin.ext ?_⟩
    match a with
    | ⟨0, _⟩ =>
      have := hd k
      rw [hk'] at this
      exact this
    | ⟨1, _⟩ => rfl

/-- A kernel's sum of words along the rows, read at a row. -/
theorem multiReductionI_add_row {n m : ℕ} (x : IVec ⟨2, ![n, m]⟩ 32)
    (h : Shape.Reduces ⟨2, ![n, m]⟩ [1] ⟨1, ![n]⟩) (hacc : (0#32 : BitVec 32) = IKind.add.neutral) (i : Fin n) :
    multiReductionI .add [1] ⟨1, ![n]⟩ x 0#32 h hacc (ix1 i) = ∑ q : Fin m, x (ix2 i q) := by
  rw [multiReductionI_eq_reduceFold]
  show reduceFold h (· + ·) (0 : BitVec 32) x (ix1 i) = _
  rw [reduceFold_add_eq_sum, zero_add]
  exact sum_row h.drop (fun _ => rfl) x i

/-- A reference's sum of words along the rows from zero, read at a row. -/
theorem reduce_add_row {n m : ℕ} {u : Shape} (x : IVec ⟨2, ![n, m]⟩ 32) (init : IVec u 32)
    (h : Shape.ReducesTo ⟨2, ![n, m]⟩ [1] ⟨1, ![n]⟩) (h' : Shape.Reduces ⟨2, ![n, m]⟩ [1] ⟨1, ![n]⟩)
    (hu : 0 < u.numel) (h0 : init (Shape.Idx.first hu) = 0#32) (i : Fin n) :
    Host.reduce IntOp.addi x init h hu (ix1 i) = ∑ q : Fin m, x (ix2 i q) := by
  have hacc : (0#32 : BitVec 32) = IKind.add.neutral := rfl
  rw [← multiReductionI_add_row x h' hacc i]
  unfold Host.reduce
  rw [h0]
  rfl

/-! ## The pooled rows -/

variable {F : FTy → Type} [FloatOps F]

/-- The length word of sequence `b`: its mask's entries, each converted to a word, summed. -/
def lengthOf (M : FVec F ⟨2, ![4, 8192]⟩ .f32) (b : Fin 4) : BitVec 32 := ∑ q : Fin 8192, fptosi 32 M (ix2 b q)

/-- For each sequence, the encoded row its length word names. -/
def pooled {α : Type} (x : (⟨3, ![4, 8192, 2048]⟩ : Shape).Idx → α) (M : FVec F ⟨2, ![4, 8192]⟩ .f32) :
    (⟨2, ![4, 2048]⟩ : Shape).Idx → α :=
  fun i => x (ix3 (i 0) ⟨rowOf (lengthOf M (i 0)), rowOf_lt _⟩ (i 1))

/-- The pooled array at an index whose sequence is `b`. -/
theorem pooled_apply {α : Type} (x : (⟨3, ![4, 8192, 2048]⟩ : Shape).Idx → α) (M : FVec F ⟨2, ![4, 8192]⟩ .f32)
    (i : (⟨2, ![4, 2048]⟩ : Shape).Idx) (b : Fin 4) (q : Fin 2048) (h0 : (i 0).val = b.val) (h1 : (i 1).val = q.val) :
    pooled x M i = x (ix3 b ⟨rowOf (lengthOf M b), rowOf_lt _⟩ q) := by
  obtain rfl : i = ix2 b q := funext fun a => Fin.ext (match a with | ⟨0, _⟩ => h0 | ⟨1, _⟩ => h1)
  rfl

end Cert.Pool

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.ValueLayout
public import proofs.«01_k».proof.Proof.Words

@[expose] public section

set_option maxRecDepth 16384

noncomputable section

namespace Cert.KernelIdeal.Pool

open Cert.KernelIdeal Cert.KernelIdeal.Gen Cert.Pool
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A one-row window at batch `b` and at the row a length word names lies inside the encoded inputs. -/
theorem row_inb (b : ℕ) (hb : b < 4) (w : BitVec 32) :
    ∀ a, (![b, rowOf w, 0] : Fin 3 → ℕ) a + S1x1x2048.size a ≤ S4x8192x2048.size a := by
  have h := rowOf_le w
  intro a
  fin_cases a <;> simp <;> omega

/-- So the body's side condition on each sequence's length word holds, whatever the word. -/
theorem chk1 (w : BitVec 32) : k0_chk1 w := ⟨row_inb 0 (by decide) w, row_inb 0 (by decide) w⟩
theorem chk2 (w : BitVec 32) : k0_chk2 w := ⟨row_inb 1 (by decide) w, row_inb 1 (by decide) w⟩
theorem chk3 (w : BitVec 32) : k0_chk3 w := ⟨row_inb 2 (by decide) w, row_inb 2 (by decide) w⟩
theorem chk4 (w : BitVec 32) : k0_chk4 w := row_inb 3 (by decide) w

/-- The encoded inputs and the result, both left in main memory: each is a whole array. -/
abbrev encM : Memref sig .tc .hbm S4x8192x2048 .f32 := Memref.whole main_arg0
abbrev outM : Memref sig .tc .hbm S4x2048 .f32 := Memref.whole main_v0

/-! ## What one copy lands -/

/-- The kernel's length word is the sum of the loaded mask row's entries, each converted to a word. -/
theorem word_eq (v : Vec F S1x8192 .f32) :
    extractAt ![0, 0] (k0_pay1 v) inpos_S1x1_p0_0 = ∑ q : Fin 8192, fptosi 32 v (ix2 (0 : Fin 1) q) := by
  show k0_pay1 v (ix2 (0 : Fin 1) (0 : Fin 1)) = _
  unfold k0_pay1
  refine (shapeCast_a_1a_apply _ _ _ _).trans ((multiReductionI_add_row _ _ _ _).trans (Finset.sum_congr rfl fun q _ => ?_))
  refine (shapeCast_a_1a_apply _ _ _ _).trans ?_
  exact congrArg (FloatOps.fptosi 32) (shapeCast_1a_a_apply _ _ q)

/-- The one-row window of the encoded inputs at the offsets `o`, as the copies read it. -/
abbrev encRow (o : Fin 3 → ℕ) (h : ∀ a, o a + S1x1x2048.size a ≤ S4x8192x2048.size a) : Memref sig .tc .hbm S1x2048 .f32 :=
  (encM.slice (Rect.unit (s := S4x8192x2048) o S1x1x2048.size h) (fun _ => rfl)).squeeze S1x2048 squeezes_S1x1x2048_S1x2048

/-- A one-row window reads the encoded inputs at its sequence and row. -/
theorem encRow_read (b R : ℕ) (hb : b < 4) (hR : R < 8192) (h : ∀ a, (![b, R, 0] : Fin 3 → ℕ) a + S1x1x2048.size a ≤ S4x8192x2048.size a)
    (x : Vec F S4x8192x2048 .f32) (j : S1x2048.Idx) :
    (encRow ![b, R, 0] h).view.read (Elt F) x j = x (ix3 ⟨b, hb⟩ ⟨R, hR⟩ (j 1)) := by
  have h0 : (j 0).val = 0 := by have h := (j 0).isLt; exact Nat.lt_one_iff.1 h
  rw [eq_ix2 j]
  refine (congrFun (Memref.read_squeeze_slice encM (Rect.unit (s := S4x8192x2048) ![b, R, 0] S1x1x2048.size h) (fun _ => rfl)
    squeezes_S1x1x2048_S1x2048 squeezes_S1x1x2048_S1x2048.numel_eq.symm x) _).trans ?_
  refine (shapeCast_1ab_ab_apply (a := 1) (b := 2048) _ _ _ _).trans ?_
  refine congrArg x (funext fun a => Fin.ext ?_)
  match a with
  | ⟨0, _⟩ => rfl
  | ⟨1, _⟩ =>
    show R + 1 * (j 0).val = R
    rw [h0]; rfl
  | ⟨2, _⟩ =>
    show 0 + 1 * (j 1).val = (j 1).val
    rw [Nat.one_mul, Nat.zero_add]

/-- A copy at sequence `b` whose row is named by the length word of mask row `b` lands the pooled row of `b`. -/
theorem piece_row (b : ℕ) (hb : b < 4) (M : Vec F S4x8192 .f32) (x : Vec F S4x8192x2048 .f32)
    (v : Vec F S1x8192 .f32) (hv : ∀ q : Fin 8192, v (ix2 (0 : Fin 1) q) = M (ix2 ⟨b, hb⟩ q)) (w : BitVec 32)
    (hw : w = extractAt ![0, 0] (k0_pay1 v) inpos_S1x1_p0_0)
    (hi : ∀ a, (![b, rowOf w, 0] : Fin 3 → ℕ) a + S1x1x2048.size a ≤ S4x8192x2048.size a)
    (ho : ∀ a, (![b, 0] : Fin 2 → ℕ) a + S1x2048.size a ≤ S4x2048.size a) (j : S1x2048.Idx) :
    (encRow ![b, rowOf w, 0] hi).view.read (Elt F) x j
      = pooled (α := F .f32) x M ((Rect.unit (s := S4x2048) ![b, 0] S1x2048.size ho).emb j) := by
  have h0 : (j 0).val = 0 := by have h := (j 0).isLt; exact Nat.lt_one_iff.1 h
  have hl : lengthOf M ⟨b, hb⟩ = w := by
    rw [hw, word_eq]
    exact Finset.sum_congr rfl fun q _ => congrArg (FloatOps.fptosi 32) (hv q).symm
  subst hl
  refine (encRow_read b _ hb (rowOf_lt _) hi x j).trans
    (pooled_apply x M _ ⟨b, hb⟩ (j 1) ?_ ?_).symm
  · show b + 1 * (j 0).val = b
    rw [h0]; rfl
  · show 0 + 1 * (j 1).val = (j 1).val
    rw [Nat.one_mul, Nat.zero_add]

/-- A load of mask row `b` reads the mask's entries at `b`. -/
theorem row_load (arg0 : Memref sig .tc .vmem S4x8192 .f32) (f : arg0.view.ty.Contents (Elt F)) (M : Vec F S4x8192 .f32)
    (hf : arg0.view.read (Elt F) f = M) (b : ℕ) (hb : b < 4)
    (h : ∀ a, (![b, 0] : Fin 2 → ℕ) a + S1x8192.size a ≤ S4x8192.size a) (q : Fin 8192) :
    arg0.view.readAt (Elt F) (Rect.unit (s := S4x8192) ![b, 0] S1x8192.size h).toLoadRect f (ix2 (0 : Fin 1) q) = M (ix2 ⟨b, hb⟩ q) := by
  rw [View.readAt_apply, hf]
  refine congrArg M (funext fun a => Fin.ext ?_)
  match a with
  | ⟨0, _⟩ => rfl
  | ⟨1, _⟩ =>
    show 0 + 1 * q.val = q.val
    rw [Nat.one_mul, Nat.zero_add]

/-- A result written row by row, each row with an array's own, is the array. -/
theorem rows_written (y : outM.view.ty.Contents (Elt F)) (G : Vec F S4x2048 .f32) (d0 d1 d2 d3 : Vec F S1x2048 .f32)
    (h0 : ∀ j, d0 j = G ((Rect.unit (s := S4x2048) ![0, 0] S1x2048.size inb_S4x2048_S1x2048_0_0).emb j))
    (h1 : ∀ j, d1 j = G ((Rect.unit (s := S4x2048) ![1, 0] S1x2048.size inb_S4x2048_S1x2048_1_0).emb j))
    (h2 : ∀ j, d2 j = G ((Rect.unit (s := S4x2048) ![2, 0] S1x2048.size inb_S4x2048_S1x2048_2_0).emb j))
    (h3 : ∀ j, d3 j = G ((Rect.unit (s := S4x2048) ![3, 0] S1x2048.size inb_S4x2048_S1x2048_3_0).emb j)) :
    outM.view.writes (Elt F) y
      [⟨Rect.unit (s := S4x2048) ![3, 0] S1x2048.size inb_S4x2048_S1x2048_3_0, d3⟩,
        ⟨Rect.unit (s := S4x2048) ![2, 0] S1x2048.size inb_S4x2048_S1x2048_2_0, d2⟩,
        ⟨Rect.unit (s := S4x2048) ![1, 0] S1x2048.size inb_S4x2048_S1x2048_1_0, d1⟩,
        ⟨Rect.unit (s := S4x2048) ![0, 0] S1x2048.size inb_S4x2048_S1x2048_0_0, d0⟩] = G := by
  funext i
  refine (congrFun (View.read_whole main_v0 _).symm i).trans ?_
  refine View.read_writes_apply_of_pieces outM.view y G _ ?_ i ?_
  swap
  · exact View.cover_of_tiledL (s := S4x2048) _ S1x2048.size (by sl_kernel_rfl) i
  exact List.forall_mem_cons.2 ⟨h3, List.forall_mem_cons.2 ⟨h2, List.forall_mem_cons.2 ⟨h1, List.forall_mem_cons.2
    ⟨h0, fun _ h => absurd h List.not_mem_nil⟩⟩⟩⟩

/-! ## The body -/

set_option maxHeartbeats 2000000 in
set_option sl_exec.dmaWindow true in
/-- The kernel's body, from a mask `M` in its staging buffer, the encoded inputs at `x`, the result at anything and the four
    copy semaphores at zero: it runs to its end and leaves the result at the pooled rows of `x` and `M`, all else as it was. -/
theorem body_run (c : Dev nD) (arg0 : Memref sig .tc .vmem S4x8192 .f32) (harg0 : arg0.IsWhole)
    (M : Vec F S4x8192 .f32)
    (x : Buf (Elt F) (encM.view.loc (c : Thread nD τ))) (y : Buf (Elt F) (outM.view.loc (c : Thread nD τ)))
    (W : Waits sig Unit) (K : PUnit → sProp 𝕄) :
    iprop(owns (c : Thread nD τ) arg0 fullShare M
        ∗ semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0
        ∗ (encM.view.loc (c : Thread nD τ) ↦{fullShare} x)
        ∗ (outM.view.loc (c : Thread nD τ) ↦{fullShare} y)
        ∗ owes (c : Thread nD τ) 0 W
        ∗ (iprop(owns (c : Thread nD τ) arg0 fullShare M
            ∗ semVal ((c : Thread nD τ), SemLoc.dma 1) 0 ∗ semVal ((c : Thread nD τ), SemLoc.dma 2) 0
            ∗ semVal ((c : Thread nD τ), SemLoc.dma 3) 0 ∗ semVal ((c : Thread nD τ), SemLoc.dma 4) 0
            ∗ (encM.view.loc (c : Thread nD τ) ↦{fullShare} x)
            ∗ (∃ y', ⌜y' = pooled x M⌝ ∗ outM.view.loc (c : Thread nD τ) ↦{fullShare} y')
            ∗ (∃ W', owes (c : Thread nD τ) 0 W')) -∗ K ⟨⟩))
      ⊢ wp frame (wpE (defs₀ (F := F)) Variants.none c none) Set.univ
          (cc0__pool_body arg0 harg0 encM (Memref.isWhole_whole _) outM (Memref.isWhole_whole _) cc0_scratch0) K := by
  rw [cc0__pool_body_eq_skeleton]; unfold cc0__pool_body_skel
  rw [k0_part1_eq_skeleton, k0_part2_eq_skeleton]; unfold k0_part1_skel k0_part2_skel
  unfold owns
  iintro ⟨⟨%f, %hf, H0⟩, Hq0, Hq1, Hq2, Hq3, Hx, Hy, HW, Hk⟩
  sl_exec (disch := first | exact chk1 _ | exact chk2 _ | exact chk3 _ | exact chk4 _)
  sl_step
  iapply Hk
  isplitl [H0]
  · iexists f; isplitr; · ipureintro; exact hf
    iexact H0
  isplitl [Hq0]; · iexact Hq0
  isplitl [Hq1]; · iexact Hq1
  isplitl [Hq2]; · iexact Hq2
  isplitl [Hq3]; · iexact Hq3
  isplitl [Hx]; · iexact Hx
  isplitl [Hy]
  · iexists _; isplitr; swap; · iexact Hy
    ipureintro
    exact rows_written y (pooled x M) _ _ _ _
      (piece_row 0 (by decide) M x _ (row_load arg0 f M hf 0 _ _) _ rfl _ _)
      (piece_row 1 (by decide) M x _ (row_load arg0 f M hf 1 _ _) _ rfl _ _)
      (piece_row 2 (by decide) M x _ (row_load arg0 f M hf 2 _ _) _ rfl _ _)
      (piece_row 3 (by decide) M x _ (row_load arg0 f M hf 3 _ _) _ rfl _ _)
  iexists _; iexact HW

end Cert.KernelIdeal.Pool

end
-- ==== Proof.Run.lean ====
module

public import proofs.«01_k».proof.Proof.Body

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: what the region finds, which cells and arrays the body takes -/

/-- Core `c`'s arrays when the region is entered: as launched. -/
abbrev V (c : Dev nD) (b : Ref sig .tc) : Buf (Elt F) ((c : Thread nD τ).loc b) := m ((c : Thread nD τ).loc b)

/-- Core `c`'s arrays when the region is left: the result at the pooled rows, the others as launched. -/
def G (c : Dev nD) : (b : Ref sig .tc) → Buf (Elt F) ((c : Thread nD τ).loc b) :=
  Function.update (V m c) main_v0 (pooled (V m c main_arg0) (V m c main_arg1) : Vec F S4x2048 .f32)

theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The four transfer cells, one for each sequence. -/
abbrev osem0 : Fin 4 → SemLoc sig := fun j => (![SemLoc.dma 1, SemLoc.dma 2, SemLoc.dma 3, SemLoc.dma 4] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0) := by
  rw [Pipeline.ownSems0_eq_of_list c osem0 [0, 1, 2, 3] (by decide) (by decide)]; rfl

/-- The array the copies read. -/
def H0 : Finset (Ref sig .tc) := {main_arg0}
theorem H0_sub : H0 ⊆ Pipeline.restRefs sig spec0 := by decide
/-- The array the copies write. -/
def R0 : Finset (Ref sig .tc) := {main_v0}
theorem R0_sub : R0 ⊆ Pipeline.restRefs sig spec0 \ H0 := by decide

/-- What the body holds apart from its mask: the four cells at zero, the encoded inputs as launched and the result at `W`. -/
theorem PhiDRG0_eq (W : (c : Dev nD) → (b : Ref sig .tc) → Buf (Elt F) ((c : Thread nD τ).loc b)) (c : Dev nD) :
    (Pipeline.ΦDRG osem0 spec0 H0 R0 (V m) W c : sProp 𝕄)
      = iprop(emp ∗ (∃ r, prngReg c r)
          ∗ iprop(semVal ((c : Thread nD τ), SemLoc.dma 1) 0 ∗ semVal ((c : Thread nD τ), SemLoc.dma 2) 0
            ∗ semVal ((c : Thread nD τ), SemLoc.dma 3) 0 ∗ semVal ((c : Thread nD τ), SemLoc.dma 4) 0)
          ∗ (encM.view.loc (c : Thread nD τ) ↦{fullShare} V m c main_arg0)
          ∗ (outM.view.loc (c : Thread nD τ) ↦{fullShare} W c main_v0)) := by
  rw [Pipeline.ΦDRG_eq, scopedRest0_eq, ownSems00_eq]
  unfold H0 R0 Pipeline.routed
  rw [BI.bigSep_singleton, BI.bigSep_singleton]
  rfl

/-! ## The proof data -/

/-- The mask as the body finds it at the grid's one point. -/
def mask (c : Dev nD) (t : Fin cfg0.N) : Vec F S4x8192 .f32 :=
  ((cfg0.win 0).blk t).view.read (Elt F) (V m c (Pipeline.arrRef spec0 0))

/-- It is the whole mask array. -/
theorem mask_eq (c : Dev nD) (t : Fin cfg0.N) : mask m c t = V m c main_arg1 := by
  obtain rfl : t = t0_0 := fin_N0 t
  funext i
  show V m c main_arg1 (((cfg0.win 0).blk t0_0).view.emb i) = V m c main_arg1 i
  congr 1
  funext a
  apply Fin.ext
  match a with
  | ⟨0, _⟩ => show 0 * 4 + 1 * (i 0).val = (i 0).val; omega
  | ⟨1, _⟩ => show 0 * 8192 + 1 * (i 1).val = (i 1).val; omega

/-- The arrays as the region finds them, the mask left in place, the result as launched before the one point and at the
    pooled rows after it, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => mask m c t
  Φ p := Pipeline.ΦDRG osem0 spec0 H0 R0 (V m) (if p.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = mask m c t := by dsimp only [dats]
theorem before0_0 (c : Dev nD) (t : Fin cfg0.N) (d) : (dats m 0 c).before 0 t d = mask m c t :=
  ((dats m 0 c).before_in_eq_fetched 0 rfl (fun _ => rfl) (fun _ _ _ => rfl) (fun t => by rw [after0_0]; rfl) t d).trans rfl
theorem Phi_first (c : Dev nD) : (dats m 0 c).Φ 0 = Pipeline.ΦDRG osem0 spec0 H0 R0 (V m) (V m) c := by
  dsimp only [dats]; rfl
theorem Phi_last (c : Dev nD) : (dats m 0 c).Φ (Fin.last cfg0.N) = Pipeline.ΦDRG osem0 spec0 H0 R0 (V m) (G m) c := by
  dsimp only [dats]; rfl

/-! ## The body at the grid's one point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.castSucc = _ from Phi_first m c, show (dats m 0 c).Φ t0_0.succ = _ from Phi_last m c,
    PhiDRG0_eq, PhiDRG0_eq, after0_0]
  simp only [before0_0]
  unfold Dat.owesAt Pipeline.owesWithin
  rw [show (dats m 0 c).owed t0_0.castSucc = 0 from rfl, show (dats m 0 c).owed t0_0.succ = 0 from rfl]
  iintro ⟨⟨He, Hg, ⟨Hq0, Hq1, Hq2, Hq3⟩, Hx, Hy⟩, ⟨%W, -, HW⟩, ⟨%d0, H0⟩⟩
  iapply (body_run c _ _ (mask m c t0_0) (V m c main_arg0) (V m c main_v0) W _)
  isplitl [H0]; · iexact H0
  isplitl [Hq0]; · iexact Hq0
  isplitl [Hq1]; · iexact Hq1
  isplitl [Hq2]; · iexact Hq2
  isplitl [Hq3]; · iexact Hq3
  isplitl [Hx]; · iexact Hx
  isplitl [Hy]; · iexact Hy
  isplitl [HW]; · iexact HW
  iintro ⟨H0, Hq0, Hq1, Hq2, Hq3, Hx, ⟨%y, %hy, Hy⟩, ⟨%W', HW⟩⟩
  rw [mask_eq] at hy
  have hG : G m c main_v0 = y := by rw [hy]; exact Function.update_self _ _ _
  rw [hG]
  isplitl [He Hg Hq0 Hq1 Hq2 Hq3 Hx Hy]
  · isplitl [He]; · iexact He
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hx]; · iexact Hx
    iexact Hy
  isplitl [HW]
  · iexists W'; isplitr; · ipureintro; exact fun _ _ => Or.inl trivial
    iexact HW
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_region : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun c => by rw [Phi_first]) (hout := fun c => by rw [Phi_last])

/-- Every run ends with the result at the pooled rows of the launched arguments, both arguments as launched and every
    semaphore counter at zero. -/
theorem run_main : θ_run defs (onTc (τ := τ) (main (F := F))) ⟨m, fun _ => 0, ρ⟩ (fun r => (∀ c : Dev nD,
      r.2.mem ((c.tc : Thread nD τ).loc main_v0)
        = (pooled (m ((c.tc : Thread nD τ).loc main_arg0)) (m ((c.tc : Thread nD τ).loc main_arg1)) : Vec F S4x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.written c (Finset.mem_singleton_self main_v0)).trans (Function.update_self _ _ _),
      (h.1.toR c).2 main_arg0 (Finset.mem_sdiff.mpr ⟨Pipeline.mem_restRefs_of main_arg0 (by decide) (by decide), by decide⟩),
      ((h.1.toR c).1 0).trans (((dats m 0 c).arrAt_in 0 rfl _).trans (A_eq m c 0))⟩, h.2⟩) (run_region m ρ)

end Cert.KernelIdeal.Pool

end
-- ==== Proof.Reference.lean ====
module

public import proofs.«01_k».proof.Proof.Words
public import proofs.«01_k».proof.Proof.Gen.ReferenceIdeal.Run

@[expose] public section

noncomputable section

namespace Cert.ReferenceIdeal.Pool

open Cert.ReferenceIdeal Cert.ReferenceIdeal.Gen Cert.Pool
open Idealize.ShloMosaic Idealize.ShloMosaic.ValueIdx Idealize.SL.Sem

/-! ## The reference's gather, read at an index -/

/-- The gather's dimension numbers: one start index pair for each sequence, a whole row of the encoded inputs for it. -/
abbrev rowGather : GatherDims S4x8192x2048 S4x2 S4x2048 := gather_S4x8192x2048_S4x2_S4x2048_1_01_n_n_01_1_112048

/-- Result `(b, q)` of the gather is the encoded entry `(s, r, q)`, where `s` and `r` are the two start indices held for
    sequence `b`, read signed and held within the encoded inputs. -/
theorem gather_apply {α : Type} (x : S4x8192x2048.Idx → α) (idx : IVec S4x2 32) (b : Fin 4) (q : Fin 2048) (s : Fin 4) (r : ℕ) (h : r < 8192)
    (hs : min (idx (ix2 b (0 : Fin 2))).toInt.toNat 3 = s.val) (hr : min (idx (ix2 b (1 : Fin 2))).toInt.toNat 8191 = r) :
    Host.gather rowGather x idx (ix2 b q) = x (ix3 s ⟨r, h⟩ q) := by
  have hsi : ∀ k : Fin rowGather.startIndexMap.length, rowGather.siIdx (ix2 b q) k = ix2 b ⟨k.val, k.isLt⟩ := fun k =>
    funext fun a => Fin.ext (match a with | ⟨0, _⟩ => rfl | ⟨1, _⟩ => rfl)
  unfold Host.gather
  refine congrArg x (funext fun a => Fin.ext ?_)
  match a with
  | ⟨0, _⟩ =>
    show rowGather.start (ix2 b q) idx 0 + rowGather.batchCoord (ix2 b q) 0 + rowGather.offCoord (ix2 b q) 0 = s.val
    rw [rowGather.batchCoord_eq_zero _ _ List.not_mem_nil, rowGather.offCoord_eq_zero _ _ (by decide)]
    unfold GatherDims.start
    rw [dif_pos (by decide), hsi]
    exact hs
  | ⟨1, _⟩ =>
    show rowGather.start (ix2 b q) idx 1 + rowGather.batchCoord (ix2 b q) 1 + rowGather.offCoord (ix2 b q) 1 = r
    rw [rowGather.batchCoord_eq_zero _ _ List.not_mem_nil, rowGather.offCoord_eq_zero _ _ (by decide)]
    unfold GatherDims.start
    rw [dif_pos (by decide), hsi]
    exact hr
  | ⟨2, _⟩ =>
    show rowGather.start (ix2 b q) idx 2 + rowGather.batchCoord (ix2 b q) 2 + rowGather.offCoord (ix2 b q) 2 = q.val
    rw [rowGather.batchCoord_eq_zero _ _ List.not_mem_nil]
    unfold GatherDims.start GatherDims.offCoord
    rw [dif_neg (by decide), dif_pos (by decide)]
    show 0 + 0 + q.val = q.val
    omega

/-! ## Its start indices -/

/-- A vector as a column. -/
abbrev column (w : IVec S4 32) : IVec S4x1 32 := broadcastInDim S4x1 ![0] bcast_S4_S4x1_0 w

theorem column_apply (w : IVec S4 32) (b : Fin 4) : column w (ix2 b (0 : Fin 1)) = w (ix1 b) :=
  broadcastInDim_apply _ _ w _ _ fun a => by obtain rfl : a = 0 := Subsingleton.elim _ _; rfl

/-- Two vectors side by side as columns hold the first in column zero. -/
theorem columns_zero (u v : IVec S4 32) (b : Fin 4) :
    concatenate S4x2 1 [⟨S4x1, column u⟩, ⟨S4x1, column v⟩] concatenates_S4x1_S4x1_S4x2_d1 (ix2 b (0 : Fin 2)) = u (ix1 b) :=
  (concatenate_pair_apply_left 1 (column u) (column v) concatenates_S4x1_S4x1_S4x2_d1 (ix2 b (0 : Fin 2)) rfl (ix2 b (0 : Fin 1))
    fun a => match a with | ⟨0, _⟩ => rfl | ⟨1, _⟩ => rfl).trans (column_apply u b)

/-- And the second in column one. -/
theorem columns_one (u v : IVec S4 32) (b : Fin 4) :
    concatenate S4x2 1 [⟨S4x1, column u⟩, ⟨S4x1, column v⟩] concatenates_S4x1_S4x1_S4x2_d1 (ix2 b (1 : Fin 2)) = v (ix1 b) :=
  (concatenate_pair_apply_right 1 (column u) (column v) concatenates_S4x1_S4x1_S4x2_d1 (ix2 b (1 : Fin 2)) rfl rfl (ix2 b (0 : Fin 1))
    (fun a ha => match a, ha with | ⟨0, _⟩, _ => rfl | ⟨1, _⟩, ha => absurd rfl ha) rfl).trans (column_apply v b)

/-- The sequence's own number, wrapped when negative (it is not), is read as itself. -/
theorem sequence_index (b : Fin 4) :
    min (select (cmpi .slt (iotaInDim S4 32 0) (broadcastInDim S4 ![] bcast_S_S4 (constantI S_ 32 0#32)))
      (addi (iotaInDim S4 32 0) (broadcastInDim S4 ![] bcast_S_S4 (constantI S_ 32 4#32))) (iotaInDim S4 32 0) (ix1 b)).toInt.toNat 3 = b.val := by
  revert b; decide

/-- A vector of row numbers held at zero or above, wrapped when negative (none is), is read as itself. -/
theorem row_index (z : IVec S4 32) (b : Fin 4) :
    select (cmpi .slt (maxsi z (broadcastInDim S4 ![] bcast_S_S4 (constantI S_ 32 0#32))) (broadcastInDim S4 ![] bcast_S_S4 (constantI S_ 32 0#32)))
      (addi (maxsi z (broadcastInDim S4 ![] bcast_S_S4 (constantI S_ 32 0#32))) (broadcastInDim S4 ![] bcast_S_S4 (constantI S_ 32 8192#32)))
      (maxsi z (broadcastInDim S4 ![] bcast_S_S4 (constantI S_ 32 0#32))) (ix1 b)
      = IntOp.maxsi (z (ix1 b)) 0#32 := by
  show (if IntOp.cmpi .slt (IntOp.maxsi (z (ix1 b)) 0#32) 0#32 = 1#1 then _ else IntOp.maxsi (z (ix1 b)) 0#32) = _
  rw [cmpi_slt_maxsi_zero, if_neg (by decide)]

/-! ## Its run -/

variable {F : FTy → Type} [FloatOps F]

/-- The length words, less one. -/
theorem last_index (M : FVec F S4x8192 .f32) (b : Fin 4) :
    subi (Host.reduce IntOp.addi (fptosi 32 M) (constantI S_ 32 0#32) reducesTo_S4x8192_S4_d1 h_S_)
      (broadcastInDim S4 ![] bcast_S_S4 (constantI S_ 32 1#32)) (ix1 b) = IntOp.subi (lengthOf M b) 1#32 := by
  have e := reduce_add_row (fptosi 32 M) (constantI S_ 32 0#32) reducesTo_S4x8192_S4_d1 (by decide) h_S_ rfl b
  show IntOp.subi (Host.reduce IntOp.addi (fptosi 32 M) (constantI S_ 32 0#32) reducesTo_S4x8192_S4_d1 h_S_ (ix1 b)) 1#32 = _
  rw [e]; rfl

variable (m : (ℓ : Loc nD τ sig) → Buf (Elt F) ℓ) (ρ : Dev nD → PrngReg)

/-- Every run of the reference ends with the result at the pooled rows of the launched arguments, both arguments as
    launched and every semaphore counter at zero. -/
theorem run_main : θ_run defs (onTc (τ := τ) (main (F := F))) ⟨m, fun _ => 0, ρ⟩ (fun r => (∀ c : Dev nD,
      r.2.mem ((c.tc : Thread nD τ).loc main_v20)
        = (pooled (m ((c.tc : Thread nD τ).loc main_arg0)) (m ((c.tc : Thread nD τ).loc main_arg1)) : Vec F S4x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ⟨(h c).1.trans (funext fun i => ?_), (h c).2⟩,
    sem_eq_zero_of_no_sems (by decide) r.2⟩) (Value.run m ρ)
  obtain ⟨b, q, rfl⟩ : ∃ (b : Fin 4) (q : Fin 2048), i = ix2 b q :=
    ⟨i 0, i 1, funext fun a => match a with | ⟨0, _⟩ => rfl | ⟨1, _⟩ => rfl⟩
  rw [pooled_apply _ _ _ b q rfl rfl]
  refine gather_apply _ _ b q b _ (rowOf_lt _) ?_ ?_
  · rw [columns_zero]; exact sequence_index b
  · rw [columns_one, row_index, last_index]; exact (rowOf_eq_min _).symm

end Cert.ReferenceIdeal.Pool

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Reference

@[expose] public section

set_option maxRecDepth 16384

noncomputable section

namespace Cert.Proof

open Idealize.ShloMosaic Idealize.SL.Sem Cert.Pool

/-- The kernel's body table is the idealized program's: one row, the same text. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) := by
  unfold Cert.Kernel.defs Cert.KernelIdeal.defs
  rw [bodies_eq]; rfl

/-- The kernel's frame at the machine's floats: its text is the idealized program's, whose run is for any floats. -/
theorem frame_kernel : Cert.quiescent_Kernel := by
  intro m ρ _
  rw [defs_eq]
  exact (θ_run Cert.KernelIdeal.defs _ _).mono (fun _ h => ⟨fun c => (h.1 c).2, h.2⟩) (Cert.KernelIdeal.Pool.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Pool.run_main (F := Ideal) m ρ)

theorem frame_reference : Cert.quiescent_ReferenceIdeal := fun m ρ _ =>
  (θ_run Cert.ReferenceIdeal.defs _ _).mono (fun _ h => ⟨fun c => (h.1 c).2, h.2⟩) (Cert.ReferenceIdeal.Pool.run_main (F := Ideal) m ρ)

/-- From the same arguments both programs end with the pooled rows. -/
theorem algebraic : Cert.algebraic_KernelIdeal_ReferenceIdeal := by
  intro m ρ m' ρ' _ hag
  refine ⟨fun c => (pooled (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) : Vec Ideal Cert.KernelIdeal.S4x2048 .f32), ?_, ?_⟩
  · exact (θ_run _ _ _).mono (fun _ h => h.1) (Cert.KernelIdeal.Pool.run_main (F := Ideal) m ρ)
  · refine (θ_run _ _ _).mono (fun _ h c => ⟨(h.1 c).1.trans ?_, (h.1 c).2⟩) (Cert.ReferenceIdeal.Pool.run_main (F := Ideal) m' ρ')
    rw [(hag c).1, (hag c).2]

theorem claim : Cert.Claim := ⟨Cert.Kernel.Gen.facts, Cert.KernelIdeal.Gen.facts, Cert.ReferenceIdeal.Gen.facts,
  frame_kernel, frame_ideal, frame_reference, trivial, algebraic⟩

end Cert.Proof

end
